-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_below_infinity [hPre_weights_below_infinity : Cert.Pre_weights_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_weights_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_below_infinity [hPre_weights_below_infinity : Cert.Pre_weights_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_weights_below_infinity [hKernelIdeal : Cert.KernelIdeal.Facts] [hPre_weights_below_infinity : Cert.Pre_weights_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_weights_below_infinity [hReferenceIdeal : Cert.ReferenceIdeal.Facts] [hPre_weights_below_infinity : Cert.Pre_weights_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_weights_below_infinity [hKernelIdeal : Cert.KernelIdeal.Facts] [hReferenceIdeal : Cert.ReferenceIdeal.Facts] [hPre_weights_below_infinity : Cert.Pre_weights_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_weights_below_infinity : Cert.Pre_weights_below_infinity.Facts),
    quiescent_Kernel (hKernel := hKernel)
    ∧ quiescent_KernelIdeal (hKernelIdeal := hKernelIdeal)
    ∧ quiescent_KernelIdeal_pre_weights_below_infinity (hKernelIdeal := hKernelIdeal) (hPre_weights_below_infinity := hPre_weights_below_infinity)
    ∧ quiescent_ReferenceIdeal (hReferenceIdeal := hReferenceIdeal)
    ∧ quiescent_ReferenceIdeal_pre_weights_below_infinity (hReferenceIdeal := hReferenceIdeal) (hPre_weights_below_infinity := hPre_weights_below_infinity)
    ∧ preserves_Kernel_KernelIdeal
    ∧ algebraic_KernelIdeal_ReferenceIdeal_pre_weights_below_infinity (hKernelIdeal := hKernelIdeal) (hReferenceIdeal := hReferenceIdeal) (hPre_weights_below_infinity := hPre_weights_below_infinity)
-- ==== Pre_weights_below_infinity.lean ====
abbrev S1x1024x3 : Shape := ⟨3, ![1, 1024, 3]⟩
abbrev S128x15 : Shape := ⟨2, ![128, 15]⟩
abbrev S128 : Shape := ⟨1, ![128]⟩
abbrev S_ : Shape := ⟨0, ![]⟩

class Facts : Prop where
  bcast_S_S128x15 : S_.BroadcastsInDim S128x15 (![] : Fin 0 → Fin S128x15.rank)

variable [Facts]

def fn {F : FTy → Type} [FloatOps F] (main_arg0 : FVec F S1x1024x3 .f32) (main_arg1 : FVec F S128x15 .f32) (main_arg2 : FVec F S128 .f32) : IVec S128x15 1 :=
  let main_cst : FVec F S_ .f32 := constant S_ .f32 0x7F800000#32
  let main_v0 : FVec F S128x15 .f32 := broadcastInDim S128x15 ![] bcast_S_S128x15 main_cst
  let main_v1 : IVec S128x15 1 := cmpf .olt main_arg1 main_v0
  main_v1
-- ==== Kernel.lean ====
abbrev S1x1024x3 : Shape := ⟨3, ![1, 1024, 3]⟩
abbrev S128x15 : Shape := ⟨2, ![128, 15]⟩
abbrev S128 : Shape := ⟨1, ![128]⟩
abbrev S1024x3 : Shape := ⟨2, ![1024, 3]⟩
abbrev S3x1024 : Shape := ⟨2, ![3, 1024]⟩
abbrev S15x128 : Shape := ⟨2, ![15, 128]⟩
abbrev S30x128 : Shape := ⟨2, ![30, 128]⟩
abbrev S1x128 : Shape := ⟨2, ![1, 128]⟩
abbrev S_ : Shape := ⟨0, ![]⟩
abbrev S14 : Shape := ⟨1, ![14]⟩
abbrev S1 : Shape := ⟨1, ![1]⟩
abbrev S15 : Shape := ⟨1, ![15]⟩
abbrev S1x15 : Shape := ⟨2, ![1, 15]⟩
abbrev S1x14 : Shape := ⟨2, ![1, 14]⟩
abbrev S1x1 : Shape := ⟨2, ![1, 1]⟩
abbrev S1x30 : Shape := ⟨2, ![1, 30]⟩
abbrev S1048576x128 : Shape := ⟨2, ![1048576, 128]⟩
abbrev S32x3 : Shape := ⟨2, ![32, 3]⟩
abbrev S32768x128 : Shape := ⟨2, ![32768, 128]⟩
abbrev S30 : Shape := ⟨1, ![30]⟩
abbrev S32x1 : Shape := ⟨2, ![32, 1]⟩
abbrev S1x1024 : Shape := ⟨2, ![1, 1024]⟩
abbrev S32x1024 : Shape := ⟨2, ![32, 1024]⟩
abbrev S32x1024x1 : Shape := ⟨3, ![32, 1024, 1]⟩
abbrev S1x1x30 : Shape := ⟨3, ![1, 1, 30]⟩
abbrev S32x1024x30 : Shape := ⟨3, ![32, 1024, 30]⟩
abbrev S32768x30 : Shape := ⟨2, ![32768, 30]⟩
abbrev S1x1024x1024x128 : Shape := ⟨4, ![1, 1024, 1024, 128]⟩

abbrev nBuf : Space → Nat
  | .hbm => 45
  | .vmem => 9
  | .smem => 0
  | _ => 0

abbrev bufTy : (tb : Table) → Fin (tcTables nBuf tb) → BufTy
  | .hbm, ⟨0, _⟩ => ⟨S1x1024x3, .f32⟩
  | .hbm, ⟨1, _⟩ => ⟨S128x15, .f32⟩
  | .hbm, ⟨2, _⟩ => ⟨S128, .f32⟩
  | .hbm, ⟨3, _⟩ => ⟨S1024x3, .f32⟩
  | .hbm, ⟨4, _⟩ => ⟨S3x1024, .f32⟩
  | .hbm, ⟨5, _⟩ => ⟨S15x128, .f32⟩
  | .hbm, ⟨6, _⟩ => ⟨S15x128, .bf16⟩
  | .hbm, ⟨7, _⟩ => ⟨S15x128, .f32⟩
  | .hbm, ⟨8, _⟩ => ⟨S15x128, .f32⟩
  | .hbm, ⟨9, _⟩ => ⟨S15x128, .bf16⟩
  | .hbm, ⟨10, _⟩ => ⟨S30x128, .bf16⟩
  | .hbm, ⟨11, _⟩ => ⟨S1x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S14, .f32⟩
  | .hbm, ⟨20, _⟩ => ⟨S_, .f32⟩
  | .hbm, ⟨21, _⟩ => ⟨S14, .f32⟩
  | .hbm, ⟨22, _⟩ => ⟨S14, .f32⟩
  | .hbm, ⟨23, _⟩ => ⟨S1, .f32⟩
  | .hbm, ⟨24, _⟩ => ⟨S_, .f32⟩
  | .hbm, ⟨25, _⟩ => ⟨S14, .f32⟩
  | .hbm, ⟨26, _⟩ => ⟨S14, .f32⟩
  | .hbm, ⟨27, _⟩ => ⟨S14, .f32⟩
  | .hbm, ⟨28, _⟩ => ⟨S14, .f32⟩
  | .hbm, ⟨29, _⟩ => ⟨S1, .f32⟩
  | .hbm, ⟨30, _⟩ => ⟨S14, .f32⟩
  | .hbm, ⟨31, _⟩ => ⟨S14, .f32⟩
  | .hbm, ⟨32, _⟩ => ⟨S14, .f32⟩
  | .hbm, ⟨33, _⟩ => ⟨S1, .f32⟩
  | .hbm, ⟨34, _⟩ => ⟨S15, .f32⟩
  | .hbm, ⟨35, _⟩ => ⟨S15, .f32⟩
  | .hbm, ⟨36, _⟩ => ⟨S1x15, .f32⟩
  | .hbm, ⟨37, _⟩ => ⟨S1x14, .f32⟩
  | .hbm, ⟨38, _⟩ => ⟨S_, .f32⟩
  | .hbm, ⟨39, _⟩ => ⟨S1x1, .f32⟩
  | .hbm, ⟨40, _⟩ => ⟨S1x15, .f32⟩
  | .hbm, ⟨41, _⟩ => ⟨S1x30, .f32⟩
  | .hbm, ⟨42, _⟩ => ⟨S1x30, .f32⟩
  | .hbm, ⟨43, _⟩ => ⟨S1048576x128, .f32⟩
  | .hbm, ⟨44, _⟩ => ⟨S1x1024x1024x128, .f32⟩
  | .local _ .vmem, ⟨0, _⟩ => ⟨S32x3, .f32⟩
  | .local _ .vmem, ⟨1, _⟩ => ⟨S32x3, .f32⟩
  | .local _ .vmem, ⟨2, _⟩ => ⟨S3x1024, .f32⟩
  | .local _ .vmem, ⟨3, _⟩ => ⟨S1x30, .f32⟩
  | .local _ .vmem, ⟨4, _⟩ => ⟨S1x30, .f32⟩
  | .local _ .vmem, ⟨5, _⟩ => ⟨S30x128, .bf16⟩
  | .local _ .vmem, ⟨6, _⟩ => ⟨S1x128, .f32⟩
  | .local _ .vmem, ⟨7, _⟩ => ⟨S32768x128, .f32⟩
  | .local _ .vmem, ⟨8, _⟩ => ⟨S32768x128, .f32⟩
  | _, _ => ⟨S1x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S30x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x1024x3 : Shape := ⟨3, ![1, 1024, 3]⟩
abbrev S128x15 : Shape := ⟨2, ![128, 15]⟩
abbrev S128 : Shape := ⟨1, ![128]⟩
abbrev S1 : Shape := ⟨1, ![1]⟩
abbrev S_ : Shape := ⟨0, ![]⟩
abbrev S14 : Shape := ⟨1, ![14]⟩
abbrev S15 : Shape := ⟨1, ![15]⟩
abbrev S1x1024x1x3 : Shape := ⟨4, ![1, 1024, 1, 3]⟩
abbrev S1x1x1024x3 : Shape := ⟨4, ![1, 1, 1024, 3]⟩
abbrev S1x1024x1024x3 : Shape := ⟨4, ![1, 1024, 1024, 3]⟩
abbrev S1x1024x1024 : Shape := ⟨3, ![1, 1024, 1024]⟩
abbrev S1x1024x1024x1 : Shape := ⟨4, ![1, 1024, 1024, 1]⟩
abbrev S1x1x1x15 : Shape := ⟨4, ![1, 1, 1, 15]⟩
abbrev S1x1024x1024x15 : Shape := ⟨4, ![1, 1024, 1024, 15]⟩
abbrev S1x1024x1024x128 : Shape := ⟨4, ![1, 1024, 1024, 128]⟩
abbrev S1x1x1x128 : Shape := ⟨4, ![1, 1, 1, 128]⟩

abbrev nBuf : Space → Nat
  | .hbm => 53
  | .vmem => 0
  | .smem => 0
  | _ => 0

abbrev bufTy : (tb : Table) → Fin (tcTables nBuf tb) → BufTy
  | .hbm, ⟨0, _⟩ => ⟨S1x1024x3, .f32⟩
  | .hbm, ⟨1, _⟩ => ⟨S128x15, .f32⟩
  | .hbm, ⟨2, _⟩ => ⟨S128, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S14, .f32⟩
  | .hbm, ⟨12, _⟩ => ⟨S_, .f32⟩
  | .hbm, ⟨13, _⟩ => ⟨S14, .f32⟩
  | .hbm, ⟨14, _⟩ => ⟨S14, .f32⟩
  | .hbm, ⟨15, _⟩ => ⟨S1, .f32⟩
  | .hbm, ⟨16, _⟩ => ⟨S_, .f32⟩
  | .hbm, ⟨17, _⟩ => ⟨S14, .f32⟩
  | .hbm, ⟨18, _⟩ => ⟨S14, .f32⟩
  | .hbm, ⟨19, _⟩ => ⟨S14, .f32⟩
  | .hbm, ⟨20, _⟩ => ⟨S14, .f32⟩
  | .hbm, ⟨21, _⟩ => ⟨S1, .f32⟩
  | .hbm, ⟨22, _⟩ => ⟨S14, .f32⟩
  | .hbm, ⟨23, _⟩ => ⟨S14, .f32⟩
  | .hbm, ⟨24, _⟩ => ⟨S14, .f32⟩
  | .hbm, ⟨25, _⟩ => ⟨S1, .f32⟩
  | .hbm, ⟨26, _⟩ => ⟨S15, .f32⟩
  | .hbm, ⟨27, _⟩ => ⟨S15, .f32⟩
  | .hbm, ⟨28, _⟩ => ⟨S14, .f32⟩
  | .hbm, ⟨29, _⟩ => ⟨S15, .f32⟩
  | .hbm, ⟨30, _⟩ => ⟨S1x1024x1x3, .f32⟩
  | .hbm, ⟨31, _⟩ => ⟨S1x1x1024x3, .f32⟩
  | .hbm, ⟨32, _⟩ => ⟨S1x1024x1024x3, .f32⟩
  | .hbm, ⟨33, _⟩ => ⟨S1x1024x1024x3, .f32⟩
  | .hbm, ⟨34, _⟩ => ⟨S1x1024x1024x3, .f32⟩
  | .hbm, ⟨35, _⟩ => ⟨S1x1024x1024x3, .f32⟩
  | .hbm, ⟨36, _⟩ => ⟨S_, .f32⟩
  | .hbm, ⟨37, _⟩ => ⟨S1x1024x1024, .f32⟩
  | .hbm, ⟨38, _⟩ => ⟨S1x1024x1024x1, .f32⟩
  | .hbm, ⟨39, _⟩ => ⟨S1x1x1x15, .f32⟩
  | .hbm, ⟨40, _⟩ => ⟨S1x1024x1024x15, .f32⟩
  | .hbm, ⟨41, _⟩ => ⟨S1x1024x1024x15, .f32⟩
  | .hbm, ⟨42, _⟩ => ⟨S1x1024x1024x15, .i1⟩
  | .hbm, ⟨43, _⟩ => ⟨S1x1x1x15, .f32⟩
  | .hbm, ⟨44, _⟩ => ⟨S1x1024x1024x15, .f32⟩
  | .hbm, ⟨45, _⟩ => ⟨S1x1024x1024x15, .f32⟩
  | .hbm, ⟨46, _⟩ => ⟨S1x1024x1024x15, .i1⟩
  | .hbm, ⟨47, _⟩ => ⟨S1x1024x1024x15, .i1⟩
  | .hbm, ⟨48, _⟩ => ⟨S1x1024x1024x15, .f32⟩
  | .hbm, ⟨49, _⟩ => ⟨S1x1024x1024x128, .f32⟩
  | .hbm, ⟨50, _⟩ => ⟨S1x1x1x128, .f32⟩
  | .hbm, ⟨51, _⟩ => ⟨S1x1024x1024x128, .f32⟩
  | .hbm, ⟨52, _⟩ => ⟨S1x1024x1024x128, .f32⟩
  | _, _ => ⟨S1x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]
-- ==== Proof.Score.lean ====
/-
  The function that the kernel and the reference compute, entry by entry over the extended reals.
  The squared distance of two points is compared with fifteen pairs of thresholds; each comparison is a 0/1 mark, and an
  entry of the result is the sum of the marks times a row of weights, plus a bias.
-/
module

public import proofs.«01_k».proof.Proof.Gen.KernelIdeal
public import Idealize.ShloMosaic.Lib.Pointwise

@[expose] public section

noncomputable section

namespace Cert.Score

open Idealize.ShloMosaic Cert.KernelIdeal Cert.KernelIdeal.Gen

/-- Fifteen evenly spaced numbers from 3.25 to 20.75, as both programs compute them: fourteen interpolated ones, then
    the last endpoint itself. -/
def bins : FVec Ideal S15 .f32 :=
  have first : FVec Ideal S_ .f32 := constant S_ .f32 0x40500000#32
  have last : FVec Ideal S_ .f32 := constant S_ .f32 0x41A60000#32
  have step : FVec Ideal S14 .f32 :=
    Host.divf (sitofp .f32 (iotaInDim S14 32 0)) (broadcastInDim S14 ![] bcast_S_S14 (constant S_ .f32 0x41600000#32))
  have one : FVec Ideal S14 .f32 := broadcastInDim S14 ![] bcast_S_S14 (constant S_ .f32 0x3F800000#32)
  have inner : FVec Ideal S14 .f32 :=
    addf (mulf (broadcastInDim S14 ![0] bcast_S1_S14_0 (shapeCast S1 first shapeCasts_S_S1)) (subf one step))
      (mulf (broadcastInDim S14 ![0] bcast_S1_S14_0 (shapeCast S1 last shapeCasts_S_S1)) step)
  concatenate S15 0 [⟨S14, inner⟩, ⟨S1, broadcastInDim S1 ![] bcast_S_S1 last⟩] concatenates_S14_S1_S15_d0

/-- The lower threshold of bin `k`: the square of the `k`-th number. -/
def lower (k : Fin 15) : EReal := bins (ix1 k) * bins (ix1 k)

/-- The upper threshold of bin `k`: the next bin's lower threshold, and for the last bin the constant 10⁸. -/
def upper (k : Fin 15) : EReal :=
  if h : k.val < 14 then lower ⟨k.val + 1, by omega⟩ else Ideal.ofBits .f32 0x4CBEBC20#32

/-- The mark of a number `d` against the thresholds `lo` and `hi`: 1 if it lies strictly between, else 0. -/
def mark (lo hi d : EReal) : EReal := if lo < d ∧ d < hi then 1 else 0

/-- The squared distance of points `i` and `j`, the three coordinates added first to last. -/
def gap (X : FVec Ideal S1x1024x3 .f32) (i j : Fin 1024) : EReal :=
  (X (ix3 0 i 0) - X (ix3 0 j 0)) * (X (ix3 0 i 0) - X (ix3 0 j 0))
    + (X (ix3 0 i 1) - X (ix3 0 j 1)) * (X (ix3 0 i 1) - X (ix3 0 j 1))
    + (X (ix3 0 i 2) - X (ix3 0 j 2)) * (X (ix3 0 i 2) - X (ix3 0 j 2))

/-- Entry `(i, j, l)` of the result: the marks of the pair's squared distance times row `l` of the weights, plus the
    bias of `l`. -/
def cell (X : FVec Ideal S1x1024x3 .f32) (W : FVec Ideal S128x15 .f32) (b : FVec Ideal S128 .f32)
    (i j : Fin 1024) (l : Fin 128) : EReal :=
  (∑ k : Fin 15, mark (lower k) (upper k) (gap X i j) * W (ix2 l k)) + b (ix1 l)

/-- The two comparisons' bits, joined and widened to a signed word, are the mark as a number. -/
theorem signed_mark (lo hi d : EReal) :
    (FloatOps.sitofp .f32 (BitVec.setWidth 32 (IntOp.andi (BitVec.ofBool (decide (lo < d))) (BitVec.ofBool (decide (d < hi))))) : Ideal .f32)
      = mark lo hi d := by
  unfold mark
  by_cases h : lo < d <;> by_cases h' : d < hi <;> simp [h, h', IntOp.andi, FloatOps.sitofp]

/-- The two comparisons' bits, joined and read as an unsigned number, are the mark. -/
theorem unsigned_mark (lo hi d : EReal) :
    (FloatOps.uitofp .f32 (IntOp.andi (BitVec.ofBool (decide (lo < d))) (BitVec.ofBool (decide (d < hi)))) : Ideal .f32)
      = mark lo hi d := by
  unfold mark
  by_cases h : lo < d <;> by_cases h' : d < hi <;> simp [h, h', IntOp.andi, FloatOps.uitofp]

/-- A marked weight below +∞ splits off its own difference, which adds nothing: `o·w + o·(w − w) = o·w`. At `w = −∞` the
    difference is −∞ and the sum is still −∞; at `w = +∞` it would be −∞ too, and the sum would change. -/
theorem mark_split (lo hi d w : EReal) (hw : w < ⊤) :
    mark lo hi d * w + mark lo hi d * (w - w) = mark lo hi d * w := by
  unfold mark
  split
  · induction w with
    | bot => simp
    | top => exact absurd hw (lt_irrefl _)
    | coe r => rw [one_mul, one_mul, ← EReal.coe_sub, sub_self, EReal.coe_zero, add_zero]
  · simp

/-- The sum over thirty columns whose thresholds repeat after fifteen, the weights in the first half and each weight's
    difference with itself in the second, is the sum over the fifteen bins. -/
theorem sum_halves (lo hi w : Fin 15 → EReal) (d : EReal) (lo2 hi2 w2 : Fin 30 → EReal) (hw : ∀ k, w k < ⊤)
    (hlo : ∀ k : Fin 30, lo2 k = lo ⟨k.val % 15, by omega⟩) (hhi : ∀ k : Fin 30, hi2 k = hi ⟨k.val % 15, by omega⟩)
    (hfirst : ∀ k : Fin 15, w2 ⟨k.val, by omega⟩ = w k)
    (hsecond : ∀ k : Fin 15, w2 ⟨k.val + 15, by omega⟩ = w k - w k) :
    ∑ k : Fin 30, mark (lo2 k) (hi2 k) d * w2 k = ∑ k : Fin 15, mark (lo k) (hi k) d * w k := by
  rw [show (∑ k : Fin 30, mark (lo2 k) (hi2 k) d * w2 k) = _ from Fin.sum_univ_add (a := 15) (b := 15) _,
    ← Finset.sum_add_distrib]
  refine Finset.sum_congr rfl fun k _ => ?_
  have h1 : ∀ h : k.val < 30, (⟨k.val, h⟩ : Fin 30) = Fin.castAdd 15 k := fun _ => rfl
  have h2 : (⟨k.val + 15, by omega⟩ : Fin 30) = Fin.natAdd 15 k := Fin.ext (Nat.add_comm _ _)
  have e1 : (Fin.castAdd 15 k : Fin 30).val % 15 = k.val := Nat.mod_eq_of_lt k.isLt
  have e2 : (Fin.natAdd 15 k : Fin 30).val % 15 = k.val := by
    show (15 + k.val) % 15 = k.val
    omega
  rw [← mark_split _ _ _ _ (hw k), ← hsecond k, ← hfirst k, h1, h2, hlo, hlo, hhi, hhi]
  simp only [e1, e2]

end Cert.Score

end
-- ==== Proof.Block.lean ====
/-
  What the kernel's body leaves in one block: 32 points against all 1024, a row for every pair.
-/
module

public import proofs.«01_k».proof.Proof.Gen.KernelIdeal.Skeleton
public import proofs.«01_k».proof.Proof.Score

@[expose] public section

set_option maxRecDepth 16384

noncomputable section

namespace Cert.KernelIdeal.Value

open Idealize.ShloMosaic Cert.KernelIdeal Cert.KernelIdeal.Gen Cert.Score

/-- Row `1024·p + q` of the block is the pair of the block's point `p` and the array's point `q`: entry `l` sums, over
    the thirty columns, the mark of the pair's squared distance times the column's weight, and adds the bias. -/
theorem block_apply (pts : Vec Ideal S32x3 .f32) (all : Vec Ideal S3x1024 .f32) (lo hi : Vec Ideal S1x30 .f32)
    (w : Vec Ideal S30x128 .bf16) (b : Vec Ideal S1x128 .f32) (r : Fin 32768) (l : Fin 128) (p : Fin 32) (q : Fin 1024)
    (hr : r.val = 1024 * p.val + q.val) :
    k0_pay1 (k0_pay2 w) (k0_pay3 b) (k0_pay4 all lo hi pts) (ix2 r l)
      = (∑ k : Fin 30, mark (lo (ix2 0 k)) (hi (ix2 0 k))
            ((pts (ix2 p 0) - all (ix2 0 q)) * (pts (ix2 p 0) - all (ix2 0 q))
              + (pts (ix2 p 1) - all (ix2 1 q)) * (pts (ix2 p 1) - all (ix2 1 q))
              + (pts (ix2 p 2) - all (ix2 2 q)) * (pts (ix2 p 2) - all (ix2 2 q))) * w (ix2 k l))
          + b (ix2 0 l) := by
  have hp : (⟨r.val / 1024, by omega⟩ : Fin 32) = p := Fin.ext (by show r.val / 1024 = p.val; omega)
  have hq : (⟨r.val % 1024, by omega⟩ : Fin 1024) = q := Fin.ext (by show r.val % 1024 = q.val; omega)
  pointwise [k0_pay1, k0_pay2, k0_pay3, k0_pay4]
  simp only [signed_mark, hp, hq]

end Cert.KernelIdeal.Value

end
-- ==== Proof.Entry.lean ====
/-
  What the six input arrays of the kernel hold when its grid starts, read at an index from the three arguments.
-/
module

public import proofs.«01_k».proof.Proof.Gen.KernelIdeal.Frame
public import proofs.«01_k».proof.Proof.Score
public import Idealize.ShloMosaic.Lib.Claim
public import Idealize.ShloMosaic.Lib.Pointwise

@[expose] public section

set_option maxRecDepth 16384

noncomputable section

namespace Cert.KernelIdeal.Value

open Idealize.ShloMosaic Idealize.ShloMosaic.TcCoe Idealize.SL.Sem Cert.KernelIdeal Cert.KernelIdeal.Gen Cert.Score

variable (m : (ℓ : Loc nD τ sig) → Buf (Elt Ideal) ℓ) (c : Dev nD)

/-- The argument of points. -/
abbrev argX : FVec Ideal S1x1024x3 .f32 := m ((c : Thread nD τ).loc main_arg0)
/-- The argument of weights. -/
abbrev argW : FVec Ideal S128x15 .f32 := m ((c : Thread nD τ).loc main_arg1)
/-- The argument of biases. -/
abbrev argB : FVec Ideal S128 .f32 := m ((c : Thread nD τ).loc main_arg2)

/-- The points without their leading axis. -/
theorem points_eq : (V m c main_v0 : FVec Ideal S1024x3 .f32) = shapeCast S1024x3 (argX m c) shapeCasts_S1x1024x3_S1024x3 := by
  unfold V V0
  simp only [List.flatten_cons, List.flatten_nil, List.cons_append, List.nil_append, List.append_nil]
  entry_read
  rfl

/-- Coordinate `a` of point `i`. -/
theorem points_apply (i : Fin 1024) (a : Fin 3) : (V m c main_v0 : FVec Ideal S1024x3 .f32) (ix2 i a) = argX m c (ix3 0 i a) := by
  rw [points_eq]
  pointwise

/-- The points transposed. -/
theorem columns_eq : (V m c main_v1 : FVec Ideal S3x1024 .f32)
    = transpose S3x1024 [1, 0] (shapeCast S1024x3 (argX m c) shapeCasts_S1x1024x3_S1024x3 : FVec Ideal S1024x3 .f32) transposes_S1024x3_S3x1024_1_0 := by
  unfold V V0
  simp only [List.flatten_cons, List.flatten_nil, List.cons_append, List.nil_append, List.append_nil]
  entry_read
  rfl

/-- Coordinate `a` of point `j`, read from the transposed array. -/
theorem columns_apply (a : Fin 3) (j : Fin 1024) : (V m c main_v1 : FVec Ideal S3x1024 .f32) (ix2 a j) = argX m c (ix3 0 j a) := by
  rw [columns_eq]
  pointwise

/-- The weights transposed, over each weight minus itself. -/
theorem weights_eq : (V m c main_v7 : FVec Ideal S30x128 .bf16)
    = concatenate S30x128 0
        [⟨S15x128, truncf .bf16 (transpose S15x128 [1, 0] (argW m c) transposes_S128x15_S15x128_1_0) bitsLt_bf16_f32⟩,
         ⟨S15x128, truncf .bf16 (subf (transpose S15x128 [1, 0] (argW m c) transposes_S128x15_S15x128_1_0)
            (extf .f32 (truncf .bf16 (transpose S15x128 [1, 0] (argW m c) transposes_S128x15_S15x128_1_0) bitsLt_bf16_f32) bitsLt_bf16_f32))
            bitsLt_bf16_f32⟩]
        concatenates_S15x128_S15x128_S30x128_d0 := by
  unfold V V0
  simp only [List.flatten_cons, List.flatten_nil, List.cons_append, List.nil_append, List.append_nil]
  entry_read
  rfl

/-- In the first fifteen rows stand the weights. -/
theorem weights_first (k : Fin 15) (l : Fin 128) :
    (V m c main_v7 : FVec Ideal S30x128 .bf16) (ix2 ⟨k.val, by omega⟩ l) = argW m c (ix2 l k) := by
  rw [weights_eq]
  pointwise

/-- In the last fifteen rows stands each weight minus itself. -/
theorem weights_second (k : Fin 15) (l : Fin 128) :
    (V m c main_v7 : FVec Ideal S30x128 .bf16) (ix2 ⟨k.val + 15, by omega⟩ l) = argW m c (ix2 l k) - argW m c (ix2 l k) := by
  rw [weights_eq]
  pointwise
  have h : ¬ k.val + 15 < 15 := by omega
  simp only [h, ↓reduceDIte, Nat.add_sub_cancel]

/-- The biases under a leading axis. -/
theorem bias_eq : (V m c main_v8 : FVec Ideal S1x128 .f32) = shapeCast S1x128 (argB m c) shapeCasts_S128_S1x128 := by
  unfold V V0
  simp only [List.flatten_cons, List.flatten_nil, List.cons_append, List.nil_append, List.append_nil]
  entry_read
  rfl

/-- The bias of column `l`. -/
theorem bias_apply (l : Fin 128) : (V m c main_v8 : FVec Ideal S1x128 .f32) (ix2 0 l) = argB m c (ix1 l) := by
  rw [bias_eq]
  pointwise

/-- The squares of the bins' numbers, twice. -/
theorem lower_eq : (V m c main_v15 : FVec Ideal S1x30 .f32)
    = concatenate S1x30 1 [⟨S1x15, shapeCast S1x15 (mulf bins bins) shapeCasts_S15_S1x15⟩, ⟨S1x15, shapeCast S1x15 (mulf bins bins) shapeCasts_S15_S1x15⟩]
        concatenates_S1x15_S1x15_S1x30_d1 := by
  unfold V V0
  simp only [List.flatten_cons, List.flatten_nil, List.cons_append, List.nil_append, List.append_nil]
  entry_read
  rfl

/-- Column `k` holds the lower threshold of bin `k mod 15`. -/
theorem lower_apply (k : Fin 30) : (V m c main_v15 : FVec Ideal S1x30 .f32) (ix2 0 k) = lower ⟨k.val % 15, by omega⟩ := by
  rw [lower_eq]
  unfold lower
  generalize bins = B
  pointwise
  rcases Nat.lt_or_ge k.val 15 with h | h
  · have e : k.val % 15 = k.val := Nat.mod_eq_of_lt h
    simp only [h, e, ↓reduceDIte]
  · have h' : ¬ k.val < 15 := Nat.not_lt.mpr h
    have e : k.val % 15 = k.val - 15 := by omega
    simp only [h', e, ↓reduceDIte]

/-- The squares shifted by one with 10⁸ appended, twice. -/
theorem upper_eq : (V m c main_v16 : FVec Ideal S1x30 .f32)
    = concatenate S1x30 1
       [⟨S1x15, concatenate S1x15 1 [⟨S1x14, extractStridedSlice S1x14 ![0, 1] (shapeCast S1x15 (mulf bins bins) shapeCasts_S15_S1x15 : FVec Ideal S1x15 .f32) slices_S1x15_S1x14_0_1⟩,
          ⟨S1x1, broadcastInDim S1x1 ![] bcast_S_S1x1 (constant S_ .f32 0x4CBEBC20#32)⟩] concatenates_S1x14_S1x1_S1x15_d1⟩,
        ⟨S1x15, concatenate S1x15 1 [⟨S1x14, extractStridedSlice S1x14 ![0, 1] (shapeCast S1x15 (mulf bins bins) shapeCasts_S15_S1x15 : FVec Ideal S1x15 .f32) slices_S1x15_S1x14_0_1⟩,
          ⟨S1x1, broadcastInDim S1x1 ![] bcast_S_S1x1 (constant S_ .f32 0x4CBEBC20#32)⟩] concatenates_S1x14_S1x1_S1x15_d1⟩]
        concatenates_S1x15_S1x15_S1x30_d1 := by
  unfold V V0
  simp only [List.flatten_cons, List.flatten_nil, List.cons_append, List.nil_append, List.append_nil]
  entry_read
  rfl

/-- Column `k` holds the upper threshold of bin `k mod 15`. -/
theorem upper_apply (k : Fin 30) : (V m c main_v16 : FVec Ideal S1x30 .f32) (ix2 0 k) = upper ⟨k.val % 15, by omega⟩ := by
  rw [upper_eq]
  unfold upper lower
  generalize bins = B
  pointwise
  rcases Nat.lt_or_ge k.val 15 with h | h
  · have e : k.val % 15 = k.val := Nat.mod_eq_of_lt h
    simp only [h, e, ↓reduceDIte, Nat.add_comm 1]
  · have h' : ¬ k.val < 15 := Nat.not_lt.mpr h
    have e : k.val % 15 = k.val - 15 := by omega
    simp only [h', e, ↓reduceDIte, Nat.add_comm 1]

end Cert.KernelIdeal.Value

end
-- ==== Proof.Array.lean ====
/-
  What the kernel's output array holds after the run: the function's entries, a row for every pair of points.
-/
module

public import proofs.«01_k».proof.Proof.Gen.KernelIdeal.Frame
public import proofs.«01_k».proof.Proof.Block
public import proofs.«01_k».proof.Proof.Entry
public import Idealize.ShloMosaic.Lib.Pipeline.ValueKit

@[expose] public section

set_option maxRecDepth 16384

noncomputable section

namespace Cert.KernelIdeal.Value

open Idealize.ShloMosaic Idealize.ShloMosaic.TcCoe Idealize.SL.Sem Cert.KernelIdeal Cert.KernelIdeal.Gen Cert.Score
open Idealize.ShloMosaic.Pipeline (Dat)

variable (m : (ℓ : Loc nD τ sig) → Buf (Elt Ideal) ℓ) (c : Dev nD)

/-- Grid point `t` reads the `t`-th block of points and writes the `t`-th block of rows; the other inputs it reads
    whole. -/
theorem block_index : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The block of points at grid point `t`: the points from `32·t` on. -/
theorem points_block (t : Fin cfg0.N) (p : Fin 32) (a : Fin 3) (i : Fin 1024) (hi : i.val = 32 * t.val + p.val) :
    (iblk m c 0 t : Vec Ideal S32x3 .f32) (ix2 p a) = argX m c (ix3 0 i a) := by
  rw [← points_apply]
  blk_ext [iblk, block_index t]

/-- The transposed points, read whole. -/
theorem columns_block (t : Fin cfg0.N) (a : Fin 3) (j : Fin 1024) :
    (iblk m c 1 t : Vec Ideal S3x1024 .f32) (ix2 a j) = argX m c (ix3 0 j a) := by
  rw [← columns_apply]
  blk_ext [iblk, block_index t]

/-- The lower thresholds, read whole. -/
theorem lower_block (t : Fin cfg0.N) (k : Fin 30) :
    (iblk m c 2 t : Vec Ideal S1x30 .f32) (ix2 0 k) = lower ⟨k.val % 15, by omega⟩ := by
  rw [← lower_apply m c]
  blk_ext [iblk, block_index t]

/-- The upper thresholds, read whole. -/
theorem upper_block (t : Fin cfg0.N) (k : Fin 30) :
    (iblk m c 3 t : Vec Ideal S1x30 .f32) (ix2 0 k) = upper ⟨k.val % 15, by omega⟩ := by
  rw [← upper_apply m c]
  blk_ext [iblk, block_index t]

/-- The doubled weights, read whole. -/
theorem weights_block (t : Fin cfg0.N) (k : Fin 30) (l : Fin 128) :
    (iblk m c 4 t : Vec Ideal S30x128 .bf16) (ix2 k l) = (V m c main_v7 : FVec Ideal S30x128 .bf16) (ix2 k l) := by
  blk_ext [iblk, block_index t]

/-- The biases, read whole. -/
theorem bias_block (t : Fin cfg0.N) (l : Fin 128) :
    (iblk m c 5 t : Vec Ideal S1x128 .f32) (ix2 0 l) = argB m c (ix1 l) := by
  rw [← bias_apply]
  blk_ext [iblk, block_index t]

/-- Row `r` of the output array is the pair of points `r / 1024` and `r % 1024`. -/
def rows : FVec Ideal S1048576x128 .f32 := fun y =>
  cell (argX m c) (argW m c) (argB m c) ⟨(y 0).val / 1024, by have : (y 0).val < 1048576 := (y 0).isLt; omega⟩
    ⟨(y 0).val % 1024, by omega⟩ (y 1)

/-- The thirty columns of the doubled weights sum to the fifteen bins, if no weight is `+∞`. -/
theorem columns_sum (hW : ∀ l k, argW m c (ix2 l k) < ⊤) (d : EReal) (l : Fin 128) :
    (∑ k : Fin 30, mark (lower ⟨k.val % 15, by omega⟩) (upper ⟨k.val % 15, by omega⟩) d * (V m c main_v7 : FVec Ideal S30x128 .bf16) (ix2 k l))
      = ∑ k : Fin 15, mark (lower k) (upper k) d * argW m c (ix2 l k) :=
  sum_halves lower upper (fun k => argW m c (ix2 l k)) d _ _ (fun k => (V m c main_v7 : FVec Ideal S30x128 .bf16) (ix2 k l))
    (fun k => hW l k) (fun _ => rfl) (fun _ => rfl) (fun k => weights_first m c k l) (fun k => weights_second m c k l)

/-- The body's block at grid point `t`: its row for the block's point `p` and the array's point `j` holds the entries of
    the pair `(32·t + p, j)`. -/
theorem body_apply (hW : ∀ l k, argW m c (ix2 l k) < ⊤) (t : Fin cfg0.N) (r : Fin 32768) (l : Fin 128)
    (p : Fin 32) (i j : Fin 1024) (hr : r.val = 1024 * p.val + j.val) (hi : i.val = 32 * t.val + p.val) :
    k0_pay1 (k0_pay2 (iblk m c 4 t)) (k0_pay3 (iblk m c 5 t)) (k0_pay4 (iblk m c 1 t) (iblk m c 2 t) (iblk m c 3 t) (iblk m c 0 t)) (ix2 r l)
      = cell (argX m c) (argW m c) (argB m c) i j l := by
  rw [block_apply _ _ _ _ _ _ r l p j hr, bias_block, points_block m c t p 0 i hi, points_block m c t p 1 i hi,
    points_block m c t p 2 i hi, columns_block, columns_block, columns_block]
  unfold cell
  rw [← columns_sum m c hW]
  refine congrArg (· + argB m c (ix1 l)) (Finset.sum_congr rfl fun k _ => ?_)
  rw [lower_block, upper_block, weights_block]
  rfl

/-- The output array after the run. -/
theorem array_eq (hW : ∀ l k, argW m c (ix2 l k) < ⊤) : (dats m 0 c).arrAt 6 (cfgs 0).N = rows m c := by
  refine (dats m 0 c).arrAt_eq_of_covers 6 _ (by decide +kernel) fun t _ y => ?_
  blk_simp
  rw [after0_6]
  frame_out
  have ht : t.val < 32 := t.isLt
  obtain ⟨r, l, rfl⟩ : ∃ (r : Fin 32768) (l : Fin 128), y = ix2 r l := ⟨y 0, y 1, eq_ix2 y⟩
  have hr := r.isLt
  rw [body_apply m c hW t r l ⟨r.val / 1024, by omega⟩ ⟨32 * t.val + r.val / 1024, by omega⟩ ⟨r.val % 1024, by omega⟩
    (by show r.val = 1024 * (r.val / 1024) + r.val % 1024; omega) rfl]
  unfold rows
  congr 1
  · apply Fin.ext
    blk_simp [block_index t]
    show 32 * t.val + r.val / 1024 = (t.val * 32768 + r.val) / 1024
    omega
  · apply Fin.ext
    blk_simp [block_index t]
    show r.val % 1024 = (t.val * 32768 + r.val) % 1024
    omega
  · apply Fin.ext
    blk_simp [block_index t]

end Cert.KernelIdeal.Value

end
-- ==== Proof.Result.lean ====
/-
  What the kernel's program returns: its output array cut into pairs of points.
-/
module

public import proofs.«01_k».proof.Proof.Array
public import Idealize.ShloMosaic.Lib.Claim

@[expose] public section

set_option maxRecDepth 16384

noncomputable section

namespace Cert.KernelIdeal.Value

open Idealize.ShloMosaic Idealize.ShloMosaic.TcCoe Idealize.SL.Sem Cert.KernelIdeal Cert.KernelIdeal.Gen Cert.Score
open Idealize.ShloMosaic.Pipeline (Dat)

variable (m : (ℓ : Loc nD τ sig) → Buf (Elt Ideal) ℓ) (c : Dev nD)

/-- The returned array. -/
def result : FVec Ideal S1x1024x1024x128 .f32 := shapeCast S1x1024x1024x128 (rows m c) shapeCasts_S1048576x128_S1x1024x1024x128

/-- Its entries are the function's. -/
theorem result_apply (i j : Fin 1024) (l : Fin 128) : result m c (ix4 0 i j l) = cell (argX m c) (argW m c) (argB m c) i j l := by
  pointwise [result]
  unfold rows
  have hi := i.isLt
  have hj := j.isLt
  congr 1
  · exact Fin.ext (show (i.val * 1024 + j.val) / 1024 = i.val by omega)
  · exact Fin.ext (show (i.val * 1024 + j.val) % 1024 = j.val by omega)

/-- After the grid, the last operation leaves the returned array. -/
theorem tail_eq (hW : ∀ l k, argW m c (ix2 l k) < ⊤) :
    Pipeline.afterTail₀ cfgs (dats m) 0 (V0 m) [hostOps1] c main_v18 = result m c := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v17) = rows m c from
    (Pipeline.withArrays_arr (cfgs 0).spec (by decide) c (V0 m c) (fun w => (dats m 0 c).arrAt w (cfgs 0).N) 6).trans (array_eq m c hW)]
  rfl

/-- The program runs to its end: it returns that array and leaves its arguments as they were, if no weight is `+∞`. -/
theorem run (g : Dev nD → PrngReg) (hW : ∀ c l k, argW m c (ix2 l k) < ⊤) :
    θ_run defs (onTc (τ := τ) (main (F := Ideal))) ⟨m, fun _ => 0, g⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from Cert.KernelIdeal.Gen.run_main m g
  · exact tail_eq m c (hW c)
  · exact W_main_arg0 m (dats m) c
  · exact W_main_arg1 m (dats m) c
  · exact W_main_arg2 m (dats m) c

end Cert.KernelIdeal.Value

end
-- ==== Proof.Reference.lean ====
/-
  What the reference computes, read at an index.
-/
module

public import proofs.«01_k».proof.Proof.Gen.ReferenceIdeal.Run
public import proofs.«01_k».proof.Proof.Score

@[expose] public section

set_option maxRecDepth 16384

noncomputable section

namespace Cert.ReferenceIdeal.Value

open Idealize.ShloMosaic Idealize.ShloMosaic.TcCoe Idealize.SL.Sem Cert.ReferenceIdeal Cert.ReferenceIdeal.Gen Cert.Score

/-- The squared distances of all pairs of points. -/
def gaps (X : FVec Ideal S1x1024x3 .f32) : FVec Ideal S1x1024x1024 .f32 :=
  have diff : FVec Ideal S1x1024x1024x3 .f32 :=
    subf (broadcastInDim S1x1024x1024x3 ![0, 1, 2, 3] bcast_S1x1024x1x3_S1x1024x1024x3_0_1_2_3 (broadcastInDim S1x1024x1x3 ![0, 1, 3] bcast_S1x1024x3_S1x1024x1x3_0_1_3 X))
      (broadcastInDim S1x1024x1024x3 ![0, 1, 2, 3] bcast_S1x1x1024x3_S1x1024x1024x3_0_1_2_3 (broadcastInDim S1x1x1024x3 ![0, 2, 3] bcast_S1x1024x3_S1x1x1024x3_0_2_3 X))
  Host.reduceAdd (mulf diff diff) (constant S_ .f32 0x00000000#32) reducesTo_S1x1024x1024x3_S1x1024x1024_d3 h_S_

/-- The upper thresholds as an array. -/
def uppers : FVec Ideal S15 .f32 :=
  concatenate S15 0 [⟨S14, extractStridedSlice S14 ![1] (mulf bins bins) slices_S15_S14_1⟩, ⟨S1, constant S1 .f32 0x4CBEBC20#32⟩] concatenates_S14_S1_S15_d0

/-- The marks of all pairs of points in all bins. -/
def marks (X : FVec Ideal S1x1024x3 .f32) : FVec Ideal S1x1024x1024x15 .f32 :=
  have d : FVec Ideal S1x1024x1024x15 .f32 :=
    broadcastInDim S1x1024x1024x15 ![0, 1, 2, 3] bcast_S1x1024x1024x1_S1x1024x1024x15_0_1_2_3 (broadcastInDim S1x1024x1024x1 ![0, 1, 2] bcast_S1x1024x1024_S1x1024x1024x1_0_1_2 (gaps X))
  uitofp .f32 (andi
    (cmpf .ogt d (broadcastInDim S1x1024x1024x15 ![0, 1, 2, 3] bcast_S1x1x1x15_S1x1024x1024x15_0_1_2_3 (broadcastInDim S1x1x1x15 ![3] bcast_S15_S1x1x1x15_3 (mulf bins bins))))
    (cmpf .olt d (broadcastInDim S1x1024x1024x15 ![0, 1, 2, 3] bcast_S1x1x1x15_S1x1024x1024x15_0_1_2_3 (broadcastInDim S1x1x1x15 ![3] bcast_S15_S1x1x1x15_3 uppers))))

/-- The reference's result: the marks times the weights, plus the bias. -/
def scores (X : FVec Ideal S1x1024x3 .f32) (W : FVec Ideal S128x15 .f32) (b : FVec Ideal S128 .f32) : FVec Ideal S1x1024x1024x128 .f32 :=
  addf (Host.dotGeneral dot_S1x1024x1024x15_S128x15_S1x1024x1024x128_3_1_012_0_n_n none (marks X) W)
    (broadcastInDim S1x1024x1024x128 ![0, 1, 2, 3] bcast_S1x1x1x128_S1x1024x1024x128_0_1_2_3 (broadcastInDim S1x1x1x128 ![3] bcast_S128_S1x1x1x128_3 b))

/-- The run's result is that array, of the three arguments. -/
theorem result_eq (m : (ℓ : Loc nD τ sig) → Buf (Elt Ideal) ℓ) (c : Dev nD) :
    res_out0 m c = scores (m ((c : Thread nD τ).loc main_arg0)) (m ((c : Thread nD τ).loc main_arg1)) (m ((c : Thread nD τ).loc main_arg2)) := by
  unfold res_out0 res_main_v25
  rfl

/-- The reduction adds the three squared differences to zero: the squared distance. -/
theorem gaps_apply (X : FVec Ideal S1x1024x3 .f32) (i j : Fin 1024) : gaps X (ix3 0 i j) = gap X i j := by
  unfold gap
  pointwise [gaps]
  exact Fin.sum_univ_three _

/-- The upper thresholds, bin by bin. -/
theorem uppers_apply (k : Fin 15) : uppers (ix1 k) = upper k := by
  unfold uppers upper lower
  generalize bins = B
  pointwise
  simp only [Nat.add_comm 1]

/-- The mark of pair `(i, j)` in bin `k`. -/
theorem marks_apply (X : FVec Ideal S1x1024x3 .f32) (i j : Fin 1024) (k : Fin 15) :
    marks X (ix4 0 i j k) = mark (lower k) (upper k) (gap X i j) := by
  rw [← unsigned_mark, ← gaps_apply, ← uppers_apply]
  unfold lower
  pointwise [marks]

/-- The reference's result, entry by entry. -/
theorem scores_apply (X : FVec Ideal S1x1024x3 .f32) (W : FVec Ideal S128x15 .f32) (b : FVec Ideal S128 .f32) (i j : Fin 1024) (l : Fin 128) :
    scores X W b (ix4 0 i j l) = cell X W b i j l := by
  unfold cell
  pointwise [scores]
  simp only [marks_apply]

end Cert.ReferenceIdeal.Value

end
-- ==== Proof.Equation.lean ====
/-
  The kernel's result is the reference's, wherever no weight is +∞.
-/
module

public import proofs.«01_k».proof.Proof.Result
public import proofs.«01_k».proof.Proof.Reference
public import proofs.«01_k».proof.Pre_weights_below_infinity
public import proofs.«01_k».proof.Proof.Gen.Pre_weights_below_infinity

@[expose] public section

set_option maxRecDepth 16384

noncomputable section

namespace Cert.Equation

open Idealize.ShloMosaic Idealize.ShloMosaic.TcCoe Idealize.SL.Sem Cert.Score

/-- The precondition says of each weight that it is below `+∞`. -/
theorem weights_below (X : FVec Ideal Cert.Pre_weights_below_infinity.S1x1024x3 .f32)
    (W : FVec Ideal Cert.Pre_weights_below_infinity.S128x15 .f32) (b : FVec Ideal Cert.Pre_weights_below_infinity.S128 .f32)
    (h : Cert.Pre_weights_below_infinity.fn X W b = fun _ => 1#1) (l : Fin 128) (k : Fin 15) : W (ix2 l k) < (⊤ : EReal) := by
  have e := congrFun h (ix2 l k)
  revert e
  pointwise [Cert.Pre_weights_below_infinity.fn]
  rw [show Ideal.ofBits .f32 0x7F800000#32 = (⊤ : EReal) by simp [Ideal.ofBits, Ideal.ieee]]
  intro e
  by_contra hn
  rw [decide_eq_false hn] at e
  exact absurd e (by decide)

/-- The two results agree, entry by entry. -/
theorem results_agree (m : (ℓ : Loc Cert.KernelIdeal.nD Cert.KernelIdeal.τ Cert.KernelIdeal.sig) → Buf (Elt Ideal) ℓ) (c : Dev Cert.KernelIdeal.nD) :
    Cert.KernelIdeal.Value.result m c
      = Cert.ReferenceIdeal.Value.scores (Cert.KernelIdeal.Value.argX m c) (Cert.KernelIdeal.Value.argW m c) (Cert.KernelIdeal.Value.argB m c) := by
  funext y
  obtain ⟨z, i, j, l, rfl⟩ : ∃ (z : Fin 1) (i j : Fin 1024) (l : Fin 128), y = ix4 z i j l := ⟨y 0, y 1, y 2, y 3, eq_ix4 y⟩
  obtain rfl : z = 0 := Subsingleton.elim _ _
  exact (Cert.KernelIdeal.Value.result_apply m c i j l).trans (Cert.ReferenceIdeal.Value.scores_apply _ _ _ i j l).symm

end Cert.Equation

end
-- ==== Proof.lean ====
/-
  The proof of the certificate's claims. Each program runs to its end and leaves its arguments and
  its semaphores as they were. The kernel's and the reference's results are equal wherever no
  weight is +∞: the kernel's by `Result.lean`, the reference's by `Reference.lean`, their equality by
  `Equation.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_weights_below_infinity
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference runs to its end and leaves its arguments as they were; it has no semaphore. -/
theorem reference_frame : Cert.quiescent_ReferenceIdeal := by
  intro m g _
  exact θ_run_mono (Cert.ReferenceIdeal.Value.run m g) fun r h => ⟨fun c => (h c).2, sem_eq_zero_of_no_sems (by decide) r.2⟩

/-- From the same arguments, none of the weights `+∞`, the kernel and the reference end with equal results. -/
theorem equal_results : Cert.algebraic_KernelIdeal_ReferenceIdeal_pre_weights_below_infinity := by
  intro m g m' g' hpre hagree
  refine ⟨fun c => Cert.KernelIdeal.Value.result m c,
    Cert.KernelIdeal.Value.run m g fun c l k => Cert.Equation.weights_below _ _ _ (hpre c) l k,
    θ_run_mono (Cert.ReferenceIdeal.Value.run m' g') fun r h c => ⟨(h c).1.trans ?_, (h c).2⟩⟩
  obtain ⟨hX, hW, hB⟩ := hagree c
  refine (Cert.ReferenceIdeal.Value.result_eq m' c).trans ?_
  rw [hX, hW, hB]
  exact (Cert.Equation.results_agree m c).symm

/-- Every claim of the certificate. -/
theorem claim : Cert.Claim :=
  ⟨Cert.Kernel.Gen.facts, Cert.KernelIdeal.Gen.facts, Cert.ReferenceIdeal.Gen.facts, Cert.Pre_weights_below_infinity.Gen.facts,
    fun m g _ => Cert.Kernel.Gen.frame m g, fun m g _ => Cert.KernelIdeal.Gen.frame m g, fun m g _ => Cert.KernelIdeal.Gen.frame m g,
    reference_frame, fun m g _ => reference_frame m g trivial, trivial, equal_results⟩

end Cert.Proof

end
